-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S21504x7168 : Shape := ⟨2, ![21504, 7168]⟩
abbrev S7168x7168 : Shape := ⟨2, ![7168, 7168]⟩
abbrev S7x7x8x8 : Shape := ⟨4, ![7, 7, 8, 8]⟩
abbrev S1536x1024 : Shape := ⟨2, ![1536, 1024]⟩
abbrev S1024x1024 : Shape := ⟨2, ![1024, 1024]⟩
abbrev S1x1x8x8 : Shape := ⟨4, ![1, 1, 8, 8]⟩
abbrev S1x8 : Shape := ⟨2, ![1, 8]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x1x1x8 : Shape := ⟨4, ![1, 1, 1, 8]⟩
abbrev S7x8x7x8 : Shape := ⟨4, ![7, 8, 7, 8]⟩
abbrev S56x56 : Shape := ⟨2, ![56, 56]⟩

abbrev nBuf : Space → Nat
  | .hbm => 8
  | .vmem => 13
  | .smem => 0
  | _ => 0

abbrev bufTy : (tb : Table) → Fin (tcTables nBuf tb) → BufTy
  | .hbm, ⟨0, _⟩ => ⟨S21504x7168, .bf16⟩
  | .hbm, ⟨1, _⟩ => ⟨S21504x7168, .bf16⟩
  | .hbm, ⟨2, _⟩ => ⟨S7168x7168, .f32⟩
  | .hbm, ⟨3, _⟩ => ⟨S7168x7168, .i8⟩
  | .hbm, ⟨4, _⟩ => ⟨S7x7x8x8, .f32⟩
  | .hbm, ⟨5, _⟩ => ⟨S7168x7168, .f32⟩
  | .hbm, ⟨6, _⟩ => ⟨S7x8x7x8, .f32⟩
  | .hbm, ⟨7, _⟩ => ⟨S56x56, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .i8⟩
  | .local _ .vmem, ⟨7, _⟩ => ⟨S1024x1024, .i8⟩
  | .local _ .vmem, ⟨8, _⟩ => ⟨S1x1x8x8, .f32⟩
  | .local _ .vmem, ⟨9, _⟩ => ⟨S1x1x8x8, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S21504x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![7, 7, 14], ![false, false, false]⟩

def k0_cond3 (i : grid0.Coords) : BitVec 1 :=
  let arg2 : BitVec 32 := BitVec.ofNat 32 (i 2).val
  let c13_i32 : BitVec 32 := 13#32
  let v9 : BitVec 1 := Scalar.cmpi .eq arg2 c13_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S21504x7168 : Shape := ⟨2, ![21504, 7168]⟩
abbrev S7168x7168 : Shape := ⟨2, ![7168, 7168]⟩
abbrev S56x56 : Shape := ⟨2, ![56, 56]⟩
abbrev S56x128x56x128 : Shape := ⟨4, ![56, 128, 56, 128]⟩
abbrev S56x1x56x1 : Shape := ⟨4, ![56, 1, 56, 1]⟩

abbrev nBuf : Space → Nat
  | .hbm => 7
  | .vmem => 5
  | .smem => 0
  | _ => 0

abbrev bufTy : (tb : Table) → Fin (tcTables nBuf tb) → BufTy
  | .hbm, ⟨0, _⟩ => ⟨S21504x7168, .bf16⟩
  | .hbm, ⟨1, _⟩ => ⟨S21504x7168, .bf16⟩
  | .hbm, ⟨2, _⟩ => ⟨S7168x7168, .f32⟩
  | .hbm, ⟨3, _⟩ => ⟨S7168x7168, .f32⟩
  | .hbm, ⟨4, _⟩ => ⟨S7168x7168, .i8⟩
  | .hbm, ⟨5, _⟩ => ⟨S56x56, .f32⟩
  | .hbm, ⟨6, _⟩ => ⟨S7168x7168, .f32⟩
  | .local _ .vmem, ⟨0, _⟩ => ⟨S7168x7168, .f32⟩
  | .local _ .vmem, ⟨1, _⟩ => ⟨S7168x7168, .f32⟩
  | .local _ .vmem, ⟨2, _⟩ => ⟨S7168x7168, .i8⟩
  | .local _ .vmem, ⟨3, _⟩ => ⟨S56x56, .f32⟩
  | .local _ .vmem, ⟨4, _⟩ => ⟨S7168x7168, .f32⟩
  | _, _ => ⟨S21504x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S7168x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/- The mathematics both programs compute, over the extended reals and free of either program's tiling: a weight
   gradient plus a carried error, cut into 128 x 128 squares, each square quantised to 8-bit codes by one scale. -/
module

public import Idealize.ShloMosaic.Lib.Pointwise
public import Idealize.ShloMosaic.Lib.Pipeline.ValueKit

@[expose] public section

noncomputable section

namespace Cert.Spec

open Idealize.ShloMosaic

/-- The largest code, 127, as the float constant both programs carry. -/
abbrev hi : EReal := Ideal.ofBits .f32 0x42FE0000#32
/-- The smallest code, -127, as the float constant both programs carry. -/
abbrev lo : EReal := Ideal.ofBits .f32 0xC2FE0000#32

/-- The largest magnitude in a 128 x 128 square. -/
def amax (f : Fin 128 → Fin 128 → EReal) : EReal :=
  (Finset.univ : Finset (Fin 128 × Fin 128)).fold max ⊥ fun p => max (f p.1 p.2) (-(f p.1 p.2))

/-- The scale of a square whose largest magnitude is `a`: `a / 127`, or one for a square of zeros. -/
def scale (a : EReal) : EReal := if a = 0 then 1 else Ideal.div a hi

/-- A value over its scale, rounded to the nearest integer (ties to even) and clipped to `[-127, 127]`. -/
def quant (v s : EReal) : EReal := min hi (max lo (Ideal.liftRound Ideal.roundHalfEven (Ideal.div v s)))

/-- The 8-bit code of a value. -/
def code (v s : EReal) : BitVec 8 := Ideal.fptosi 8 (quant v s)

/-- What quantisation leaves over, the new error. -/
def left (v s : EReal) : EReal := v - quant v s * s

theorem hi_eq : hi = ((127 : ℝ) : EReal) := by
  simp [hi, Ideal.ofBits, Ideal.ieee, -EReal.coe_mul]; norm_num

theorem lo_eq : lo = ((-127 : ℝ) : EReal) := by
  simp [lo, Ideal.ofBits, Ideal.ieee, -EReal.coe_mul]; norm_num

/-- A clipped rounded value is an integer between -127 and 127. -/
theorem quant_int (v s : EReal) : ∃ n : ℤ, -127 ≤ n ∧ n ≤ 127 ∧ quant v s = ((n : ℝ) : EReal) := by
  rw [quant, hi_eq, lo_eq]
  generalize Ideal.div v s = x
  induction x with
  | bot => exact ⟨-127, by norm_num, by norm_num, by
      rw [Ideal.liftRound_bot, max_eq_left bot_le, min_eq_right (EReal.coe_le_coe_iff.2 (by norm_num))]; norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe]
    rw [Int.cast_min, Int.cast_max, EReal.coe_strictMono.monotone.map_min, EReal.coe_strictMono.monotone.map_max]
    simp only [Int.cast_neg, Int.cast_ofNat]

/-- Reading a code back as a number gives the clipped rounded value itself: nothing is lost in the 8 bits. -/
theorem code_toInt (v s : EReal) : (((code v s).toInt : ℝ) : EReal) = quant v s := by
  obtain ⟨n, h1, h2, e⟩ := quant_int v s
  rw [code, e, Ideal.fptosi, Ideal.toIntClamped_coe]
  have hn : (if (0 : ℝ) ≤ (n : ℝ) then ⌊(n : ℝ)⌋ else ⌈(n : ℝ)⌉) = n := by
    rw [Int.floor_intCast, Int.ceil_intCast, ite_self]
  rw [hn]
  have hc : max (-((2 ^ (8 - 1) : Nat) : ℤ)) (min (((2 ^ (8 - 1) : Nat) : ℤ) - 1) n) = n := by
    norm_num; omega
  rw [hc]
  have ht : (BitVec.ofInt 8 n).toInt = n := by
    rw [BitVec.toInt_ofInt, Int.bmod_def]; norm_num; split_ifs <;> omega
  rw [ht]

/-! ## The whole arrays -/

/-- A gradient array's shape. -/
abbrev Sg : Shape := ⟨2, ![7168, 7168]⟩
/-- An operand's shape: tokens by channels. -/
abbrev Sx : Shape := ⟨2, ![21504, 7168]⟩

variable (X Y : Sx.Idx → EReal) (E : Sg.Idx → EReal)

/-- The gradient with the carried error added: `∑ over the tokens of x * dy, + err`. -/
def val (i j : Fin 7168) : EReal := (∑ k : Fin 21504, X (ix2 k i) * Y (ix2 k j)) + E (ix2 i j)

/-- Position `a` of square `p` along an axis. -/
abbrev at128 (p : Fin 56) (a : Fin 128) : Fin 7168 := ⟨p.val * 128 + a.val, by omega⟩
/-- The square a position lies in. -/
abbrev sqOf (i : Fin 7168) : Fin 56 := ⟨i.val / 128, by omega⟩

/-- The scale of square `(p, q)`. -/
def scaleAt (p q : Fin 56) : EReal := scale (amax fun a b => val X Y E (at128 p a) (at128 q b))
/-- The code at `(i, j)`. -/
def codeAt (i j : Fin 7168) : BitVec 8 := code (val X Y E i j) (scaleAt X Y E (sqOf i) (sqOf j))
/-- The new error at `(i, j)`. -/
def leftAt (i j : Fin 7168) : EReal := left (val X Y E i j) (scaleAt X Y E (sqOf i) (sqOf j))

end Cert.Spec

end
-- ==== Proof.KernelAcc.lean ====
/- The gradient block the kernel accumulates: after the last token block of a run it is the whole sum of products. -/
module

public import proofs.«01_k».proof.Proof.Gen.KernelIdeal.Frame
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Acc

open Idealize.ShloMosaic Idealize.ShloMosaic.TcCoe Idealize.SL.Sem Cert.KernelIdeal Cert.KernelIdeal.Gen

variable (m : (l : Loc nD τ sig) → Buf (Elt Ideal) l) (c : Dev nD)

/-- The operands and the carried error, as launched. -/
abbrev X : Spec.Sx.Idx → EReal := m ((c : Thread nD τ).loc main_arg0)
abbrev Y : Spec.Sx.Idx → EReal := m ((c : Thread nD τ).loc main_arg1)
abbrev E : Spec.Sg.Idx → EReal := m ((c : Thread nD τ).loc main_arg2)

/-- The first token block's product. -/
theorem first_at (x0 x1 : Vec Ideal S1536x1024 .bf16) (a b : Fin 1024) :
    k0_pay2 (F := Ideal) x0 x1 (ix2 a b) = 0 + ∑ k : Fin 1536, (x0 (ix2 k a) : EReal) * x1 (ix2 k b) := by
  pointwise [k0_pay2, k0_pay1]

/-- A later token block's product, added to what was accumulated. -/
theorem next_at (x0 x1 : Vec Ideal S1536x1024 .bf16) (s : Vec Ideal S1024x1024 .f32) (a b : Fin 1024) :
    k0_pay3 (F := Ideal) x0 x1 s (ix2 a b) = s (ix2 a b) + ∑ k : Fin 1536, (x0 (ix2 k a) : EReal) * x1 (ix2 k b) := by
  pointwise [k0_pay3, k0_pay1]

/-- What the accumulator holds after point `n`. -/
abbrev held (n : Nat) (hn : n < cfg0.N) : Vec Ideal S1024x1024 .f32 := (outsAt0 m c n hn).2.2.2

/-- At the first point of a run the accumulator is set to the first product. -/
theorem held_first (t : Fin cfg0.N) (h : t.val % 14 = 0) :
    held m c t.val t.isLt = k0_pay2 (F := Ideal) (iblk m c 0 t) (iblk m c 1 t) := by
  unfold held
  rw [outsAt0_A m c t h (by omega) (by omega)]
  frame_out

/-- At every later point the product is added. -/
theorem held_next (t : Fin cfg0.N) (h : ¬t.val % 14 = 0) :
    held m c t.val t.isLt = k0_pay3 (F := Ideal) (iblk m c 0 t) (iblk m c 1 t)
      (held m c (t.val - 1) (Nat.lt_of_le_of_lt (Nat.sub_le _ _) t.isLt)) := by
  unfold held
  by_cases h2 : t.val % 14 = 13
  · rw [outsAt0_C m c t h (by omega) h2]
    frame_out
    simp only [read_unread_whole]
  · rw [outsAt0_B m c t h (by omega) h2]
    frame_out
    simp only [read_unread_whole]

/-- Where the operands' blocks lie. -/
theorem idx : ∀ t : Fin cfg0.N, win0_0.index t = ![t.val % 14, t.val / 98] ∧ win0_1.index t = ![t.val % 14, t.val / 14 % 7] :=
  (by decide +kernel : ∀ t : Fin grid0.N, _)

theorem lt686 (t : Fin cfg0.N) : t.val < 686 := lt_of_lt_of_eq t.isLt N_0

/-- The array's row and column of a block's. -/
abbrev rowAt (t : Fin cfg0.N) (a : Fin 1024) : Fin 7168 := ⟨t.val / 98 * 1024 + a.val, by have := lt686 t; omega⟩
abbrev colAt (t : Fin cfg0.N) (b : Fin 1024) : Fin 7168 := ⟨t.val / 14 % 7 * 1024 + b.val, by omega⟩

theorem x_at (t : Fin cfg0.N) (k : Fin 1536) (a : Fin 1024) (l : Fin 21504) (hl : l.val = t.val % 14 * 1536 + k.val) :
    (iblk m c 0 t : FVec Ideal S1536x1024 .bf16) (ix2 k a) = X m c (ix2 l (rowAt t a)) := by
  blk_ext [iblk, V, idx t]

theorem y_at (t : Fin cfg0.N) (k : Fin 1536) (b : Fin 1024) (l : Fin 21504) (hl : l.val = t.val % 14 * 1536 + k.val) :
    (iblk m c 1 t : FVec Ideal S1536x1024 .bf16) (ix2 k b) = Y m c (ix2 l (colAt t b)) := by
  blk_ext [iblk, V, idx t]

/-- After the run's last point the accumulator holds the sum over all the tokens. -/
theorem held_last (t : Fin cfg0.N) (hf : t.val % 14 = 13) (a b : Fin 1024) :
    held m c t.val t.isLt (ix2 a b) = ∑ l : Fin 21504, X m c (ix2 l (rowAt t a)) * Y m c (ix2 l (colAt t b)) := by
  have key := Pipeline.eq_sum_fin_of_reset_step_apply_of_flush (M := EReal) (fun n h (p : Fin 1024 × Fin 1024) => held m c n h (ix2 p.1 p.2)) 14 (fun _ => 0)
    (fun u p => ∑ k : Fin 1536, (show EReal from (iblk m c 0 u : FVec Ideal S1536x1024 .bf16) (ix2 k p.1)) * (show EReal from (iblk m c 1 u : FVec Ideal S1536x1024 .bf16) (ix2 k p.2)))
    (fun u h p => by rw [held_first m c u h]; exact first_at _ _ _ _)
    (fun u h p => by rw [held_next m c u h]; exact next_at _ _ _ _ _) t hf (a, b)
  refine key.trans ?_
  rw [zero_add]
  refine Fin.sum_mul_add_congr fun s k hl => ?_
  have ht := lt686 t
  rw [x_at m c ⟨14 * (t.val / 14) + s.val, Pipeline.run_point_lt_of_flush t hf s⟩ k a ⟨s.val * 1536 + k.val, hl⟩ (by show s.val * 1536 + k.val = (14 * (t.val / 14) + s.val) % 14 * 1536 + k.val; omega),
    y_at m c ⟨14 * (t.val / 14) + s.val, Pipeline.run_point_lt_of_flush t hf s⟩ k b ⟨s.val * 1536 + k.val, hl⟩ (by show s.val * 1536 + k.val = (14 * (t.val / 14) + s.val) % 14 * 1536 + k.val; omega)]
  have e1 : rowAt ⟨14 * (t.val / 14) + s.val, Pipeline.run_point_lt_of_flush t hf s⟩ a = rowAt t a := by
    apply Fin.ext; show (14 * (t.val / 14) + s.val) / 98 * 1024 + a.val = t.val / 98 * 1024 + a.val; omega
  have e2 : colAt ⟨14 * (t.val / 14) + s.val, Pipeline.run_point_lt_of_flush t hf s⟩ b = colAt t b := by
    apply Fin.ext; show (14 * (t.val / 14) + s.val) / 14 % 7 * 1024 + b.val = t.val / 14 % 7 * 1024 + b.val; omega
  rw [e1, e2]

end Cert.KernelIdeal.Acc

end
-- ==== Proof.KernelTile.lean ====
/- What the kernel computes for one 128 x 128 square, from the square's accumulated gradient and its error. -/
module

public import proofs.«01_k».proof.Proof.Gen.KernelIdeal.Skeleton
public import proofs.«01_k».proof.Proof.Spec

@[expose] public section

set_option maxRecDepth 16384

noncomputable section

namespace Cert.KernelIdeal.Tile

open Idealize.ShloMosaic Idealize.ShloMosaic.TcCoe Cert.KernelIdeal Cert.KernelIdeal.Gen

/-- The largest entry of a square held as one 1 x 128 x 128 array. -/
theorem max_at (v : FVec Ideal S1x128x128 .f32) :
    multiReduction .maximumf [1, 2] S1 v 0xFF800000#32 reduces_S1x128x128_S1 (.inl rfl) rfl (ix1 0)
      = (Finset.univ : Finset (Fin 128 × Fin 128)).fold max ⊥ fun k => v (ix3 0 k.1 k.2) := by
  refine (multiReduction_maximumf_eq_fold v _ _ _ _ _).trans ?_
  refine (reduces_S1x128x128_S1.fold_fiber_r3_a12 _ _ _ _).trans ?_
  have hb : FloatOps.ofBits (F := Ideal) .f32 0xFF800000#32 = (⊥ : EReal) := by
    simp [Ideal.ofBits, Ideal.ieee]
  rw [hb]; rfl

/-- The largest magnitude of a square, as one number. -/
def sqMax (v : FVec Ideal S128x128 .f32) : EReal :=
  extractAt ![0, 0, 0] (shapeCast S1x1x1 (multiReduction .maximumf [1, 2] S1 (shapeCast S1x128x128 (absf v) shapeCasts_S128x128_S1x128x128)
    0xFF800000#32 reduces_S1x128x128_S1 (.inl rfl) rfl) shapeCasts_S1_S1x1x1) inpos_S1x1x1_p0_0_0

theorem lift_at (w : FVec Ideal S1 .f32) : extractAt ![0, 0, 0] (shapeCast S1x1x1 w shapeCasts_S1_S1x1x1) inpos_S1x1x1_p0_0_0 = w (ix1 0) := by
  pointwise

theorem lay_at (w : FVec Ideal S128x128 .f32) (a b : Fin 128) :
    shapeCast S1x128x128 w shapeCasts_S128x128_S1x128x128 (ix3 0 a b) = w (ix2 a b) := by
  pointwise

theorem sqMax_eq (v : FVec Ideal S128x128 .f32) : sqMax v = Spec.amax fun a b => v (ix2 a b) := by
  unfold sqMax Spec.amax
  rw [lift_at, max_at]
  simp only [lay_at]
  rfl

/-- The scale from a largest magnitude, as a 1 x 1 array. -/
def scaleOf (a : EReal) : FVec Ideal S1x1 .f32 :=
  select (cmpf (F := Ideal) (φ := .f32) .oeq (broadcast S1x1 a) (broadcast S1x1 (Scalar.ofBits .f32 0x00000000#32))) (broadcast S1x1 (Scalar.ofBits .f32 0x3F800000#32))
    (divf (F := Ideal) (φ := .f32) (broadcast S1x1 a) (broadcast S1x1 (Scalar.ofBits .f32 0x42FE0000#32)))

theorem scaleOf_at (a : EReal) (i : S1x1.Idx) : scaleOf a i = Spec.scale a := by
  pointwise [scaleOf, Spec.scale]

/-- The clipped rounded quotients of a square's values by its scale. -/
def quantOf (v : FVec Ideal S128x128 .f32) (s : FVec Ideal S1x1 .f32) : FVec Ideal S128x128 .f32 :=
  minimumf (broadcast S128x128 (Scalar.ofBits .f32 0x42FE0000#32)) (maximumf (broadcast S128x128 (Scalar.ofBits .f32 0xC2FE0000#32))
    (roundeven (divf v (broadcastTo S128x128 s broadcasts_S1x1_S128x128))))

theorem spread_at (s : FVec Ideal S1x1 .f32) (i : S128x128.Idx) : broadcastTo S128x128 s broadcasts_S1x1_S128x128 i = s (ix2 0 0) := by
  pointwise

theorem quantOf_at (v : FVec Ideal S128x128 .f32) (s : FVec Ideal S1x1 .f32) (i : S128x128.Idx) :
    quantOf v s i = Spec.quant (v i) (s (ix2 0 0)) := by
  unfold quantOf
  rw [minimumf_apply, maximumf_apply, roundeven_apply, divf_apply, spread_at]
  rfl

/-- What is left of a square's values after their codes. -/
def leftOf (v : FVec Ideal S128x128 .f32) (s : FVec Ideal S1x1 .f32) : FVec Ideal S128x128 .f32 :=
  subf v (mulf (quantOf v s) (broadcastTo S128x128 s broadcasts_S1x1_S128x128))

theorem leftOf_at (v : FVec Ideal S128x128 .f32) (s : FVec Ideal S1x1 .f32) (i : S128x128.Idx) :
    leftOf v s i = Spec.left (v i) (s (ix2 0 0)) := by
  unfold leftOf
  rw [subf_apply, mulf_apply, spread_at, quantOf_at]
  rfl

/-- A square's scale, as one number. -/
def sqScale (a e : FVec Ideal S128x128 .f32) : EReal := Spec.scale (Spec.amax fun x y => a (ix2 x y) + e (ix2 x y))

theorem pay9_eq (a e : FVec Ideal S128x128 .f32) : k0_pay9 (F := Ideal) a e = scaleOf (sqMax (addf a e)) := rfl
theorem pay11_eq (a e : FVec Ideal S128x128 .f32) : k0_pay11 (F := Ideal) a e = fptosi 8 (quantOf (addf a e) (k0_pay9 (F := Ideal) a e)) := rfl
theorem pay12_eq (a e : FVec Ideal S128x128 .f32) : k0_pay12 (F := Ideal) a e = leftOf (addf a e) (k0_pay9 (F := Ideal) a e) := rfl

theorem scale_at (a e : FVec Ideal S128x128 .f32) (i : S1x1.Idx) : k0_pay9 (F := Ideal) a e i = sqScale a e := by
  rw [pay9_eq, scaleOf_at, sqMax_eq]; rfl

theorem code_at (a e : FVec Ideal S128x128 .f32) (i : S128x128.Idx) : k0_pay11 (F := Ideal) a e i = Spec.code (a i + e i) (sqScale a e) := by
  rw [pay11_eq, ← scale_at a e (ix2 0 0)]
  generalize k0_pay9 (F := Ideal) a e = s
  show Ideal.fptosi 8 (quantOf (addf a e) s i) = _
  rw [quantOf_at]; rfl

theorem left_at (a e : FVec Ideal S128x128 .f32) (i : S128x128.Idx) : k0_pay12 (F := Ideal) a e i = Spec.left (a i + e i) (sqScale a e) := by
  rw [pay12_eq, leftOf_at, scale_at]; rfl

/-! ## The row of eight scales -/

/-- The lane numbers of a row of eight. -/
abbrev lanes : IVec S1x8 32 := iota .tc S1x8 32 [1] iota_S1x8_d1_w32

/-- A row with lane `n` replaced by a square's scale. -/
def put (n : BitVec 32) (row : FVec Ideal S1x8 .f32) (s : FVec Ideal S1x1 .f32) : FVec Ideal S1x8 .f32 :=
  select (cmpi .eq lanes (broadcast S1x8 n)) (broadcastTo S1x8 (shapeCast S1x1 s shapeCasts_S1x1_S1x1) broadcasts_S1x1_S1x8) row

theorem put_at (n : BitVec 32) (row : FVec Ideal S1x8 .f32) (s : FVec Ideal S1x1 .f32) (q : Fin 8) :
    put n row s (ix2 0 q) = if BitVec.ofNat 32 q.val = n then s (ix2 0 0) else row (ix2 0 q) := by
  pointwise [put]
  by_cases h : BitVec.ofNat 32 q.val = n
  · simp [Scalar.select, IntOp.cmpi, h]
  · have hb : (BitVec.ofNat 32 q.val == n) = false := beq_eq_false_iff_ne.mpr h
    simp [Scalar.select, IntOp.cmpi, h, hb]

/-- The row of eight squares' scales, written lane by lane over ones, laid out as one row of the block. -/
def scaleRow (s0 s1 s2 s3 s4 s5 s6 s7 : FVec Ideal S1x1 .f32) : FVec Ideal S1x1x1x8 .f32 :=
  shapeCast S1x1x1x8 (put 7#32 (put 6#32 (put 5#32 (put 4#32 (put 3#32 (put 2#32 (put 1#32 (put 0#32
    (broadcast S1x8 (Scalar.ofBits .f32 0x3F800000#32)) s0) s1) s2) s3) s4) s5) s6) s7) shapeCasts_S1x8_S1x1x1x8

theorem flat_at (w : FVec Ideal S1x8 .f32) (q : Fin 8) : shapeCast S1x1x1x8 w shapeCasts_S1x8_S1x1x1x8 (ix4 0 0 0 q) = w (ix2 0 q) := by
  pointwise

/-- Its lane `q` is the `q`-th square's scale. -/
theorem scaleRow_at (s0 s1 s2 s3 s4 s5 s6 s7 : FVec Ideal S1x1 .f32) (f : Fin 8 → EReal) (h0 : s0 (ix2 0 0) = f 0) (h1 : s1 (ix2 0 0) = f 1)
    (h2 : s2 (ix2 0 0) = f 2) (h3 : s3 (ix2 0 0) = f 3) (h4 : s4 (ix2 0 0) = f 4) (h5 : s5 (ix2 0 0) = f 5) (h6 : s6 (ix2 0 0) = f 6)
    (h7 : s7 (ix2 0 0) = f 7) (q : Fin 8) : scaleRow s0 s1 s2 s3 s4 s5 s6 s7 (ix4 0 0 0 q) = f q := by
  unfold scaleRow
  rw [flat_at]
  simp only [put_at, h0, h1, h2, h3, h4, h5, h6, h7]
  match q with
  | 0 | 1 | 2 | 3 | 4 | 5 | 6 | 7 => simp

end Cert.KernelIdeal.Tile

end
-- ==== Proof.KernelBlock.lean ====
/- What the kernel's last step leaves in one 1024 x 1024 block, square by square, from the block's accumulated gradient
   `A` and its error `E`; and that each square's stores are that function at the square. -/
module

public import proofs.«01_k».proof.Proof.KernelTile
public import Idealize.ShloMosaic.Lib.Pipeline.ValueKit
public import Idealize.ShloMosaic.Lib.Pipeline.ReadBack

@[expose] public section

set_option maxRecDepth 16384

noncomputable section

namespace Cert.KernelIdeal.Block

open Idealize.ShloMosaic Idealize.ShloMosaic.TcCoe Cert.KernelIdeal Cert.KernelIdeal.Gen

variable (A E : FVec Ideal S1024x1024 .f32)

/-- Position `a` of square `p` along a block's axis. -/
abbrev at8 (p : Fin 8) (a : Fin 128) : Fin 1024 := ⟨p.val * 128 + a.val, by omega⟩
/-- The square of a block in which a position lies. -/
abbrev sq8 (i : Fin 1024) : Fin 8 := ⟨i.val / 128, by omega⟩

/-- The scale of the block's square `(p, q)`. -/
def scale (p q : Fin 8) : EReal :=
  Spec.scale (Spec.amax fun a b => A (ix2 (at8 p a) (at8 q b)) + E (ix2 (at8 p a) (at8 q b)))
/-- The codes of the block. -/
def codes (y : S1024x1024.Idx) : BitVec 8 := Spec.code (A y + E y) (scale A E (sq8 (y 0)) (sq8 (y 1)))
/-- The scales of the block. -/
def scales (y : S1x1x8x8.Idx) : EReal := scale A E (y 2) (y 3)
/-- The new error of the block. -/
def nerr (y : S1024x1024.Idx) : EReal := Spec.left (A y + E y) (scale A E (sq8 (y 0)) (sq8 (y 1)))

/-- The rectangle of a square. -/
abbrev sqRect (o0 o1 : Nat) (inb : ∀ a, (![o0, o1] : Fin 2 → Nat) a + S128x128.size a ≤ S1024x1024.size a) : Rect S1024x1024 :=
  Rect.unit ![o0, o1] S128x128.size inb

/-- The load of a square from a block. -/
abbrev load (o0 o1 : Nat) (inb : ∀ a, (![o0, o1] : Fin 2 → Nat) a + S128x128.size a ≤ S1024x1024.size a) : FVec Ideal S128x128 .f32 :=
  View.ld (Val := Elt Ideal) (e' := .f32) A (sqRect o0 o1 inb)

variable (o0 o1 : Nat) (inb : ∀ a, (![o0, o1] : Fin 2 → Nat) a + S128x128.size a ≤ S1024x1024.size a) (h0 : 128 ∣ o0) (h1 : 128 ∣ o1)

include inb in
theorem o0_le : o0 / 128 < 8 := by have := inb 0; simp at this; omega
include inb in
theorem o1_le : o1 / 128 < 8 := by have := inb 1; simp at this; omega

include h0 h1 in
/-- The scale computed from a square's two loads is the block's scale of that square. -/
theorem sqScale_eq : Tile.sqScale (load A o0 o1 inb) (load E o0 o1 inb)
    = scale A E ⟨o0 / 128, o0_le o0 o1 inb⟩ ⟨o1 / 128, o1_le o0 o1 inb⟩ := by
  have e : ∀ x y : Fin 128, (sqRect o0 o1 inb).idx (ix2 x y) = ix2 (at8 ⟨o0 / 128, o0_le o0 o1 inb⟩ x) (at8 ⟨o1 / 128, o1_le o0 o1 inb⟩ y) := by
    intro x y
    funext a; apply Fin.ext
    refine (Rect.idx_unit_val _ _ _ _ _).trans ?_
    match a with
    | 0 => show o0 + x.val = o0 / 128 * 128 + x.val; omega
    | 1 => show o1 + y.val = o1 / 128 * 128 + y.val; omega
  unfold Tile.sqScale scale
  congr 2
  funext x y
  show A ((sqRect o0 o1 inb).idx (ix2 x y)) + E ((sqRect o0 o1 inb).idx (ix2 x y)) = _
  rw [e]

include h0 h1 in
theorem sq_of (x : (sqRect o0 o1 inb).shape.Idx) :
    scale A E (sq8 (((sqRect o0 o1 inb).emb x) 0)) (sq8 (((sqRect o0 o1 inb).emb x) 1))
      = scale A E ⟨o0 / 128, o0_le o0 o1 inb⟩ ⟨o1 / 128, o1_le o0 o1 inb⟩ := by
  have e0 : (((sqRect o0 o1 inb).emb x) 0).val = o0 + (x 0).val := Rect.idx_unit_val _ _ inb x 0
  have e1 : (((sqRect o0 o1 inb).emb x) 1).val = o1 + (x 1).val := Rect.idx_unit_val _ _ inb x 1
  have hx0 : (x 0).val < 128 := (x 0).isLt
  have hx1 : (x 1).val < 128 := (x 1).isLt
  congr 1 <;> apply Fin.ext
  · show (((sqRect o0 o1 inb).emb x) 0).val / 128 = o0 / 128; omega
  · show (((sqRect o0 o1 inb).emb x) 1).val / 128 = o1 / 128; omega

/-- The accumulator's load of a square. -/
abbrev accSq (inb0 : ∀ a, (![0, 0] : Fin 2 → Nat) a + S1024x1024.size a ≤ S1024x1024.size a) : FVec Ideal S128x128 .f32 :=
  (View.whole cc0_scratch0).readCov (Val := Elt Ideal) [⟨Rect.unit ![0, 0] S1024x1024.size inb0, A⟩] (sqRect o0 o1 inb).toLoadRect

variable (inb0 : ∀ a, (![0, 0] : Fin 2 → Nat) a + S1024x1024.size a ≤ S1024x1024.size a)

/-- A load from the accumulator, after the one store that filled it, reads the stored block. -/
theorem acc_load : accSq A o0 o1 inb inb0 = load A o0 o1 inb := by
  have hz : (![0, 0] : Fin 2 → Nat) = fun _ => 0 := by funext a; match a with | 0 | 1 => rfl
  refine (View.readCov_eq_canon_ld _ _ _ (fun y => ⟨_, List.mem_singleton_self _, View.mem_set_unit_zero hz inb0 y⟩)).trans ?_
  exact congrArg (fun X : S1024x1024.Idx → Elt Ideal .f32 => View.ld X (sqRect o0 o1 inb)) (View.canon_unit_zero (Val := Elt Ideal) (e := .f32) hz inb0 A)

include h0 h1 in
/-- A square's stored codes are the block's codes there. -/
theorem codes_piece (x : (sqRect o0 o1 inb).shape.Idx) :
    k0_pay11 (F := Ideal) (accSq A o0 o1 inb inb0) (load E o0 o1 inb) x = codes A E ((sqRect o0 o1 inb).emb x) := by
  refine (Tile.code_at _ _ x).trans ?_
  rw [acc_load, sqScale_eq A E o0 o1 inb h0 h1, ← sq_of A E o0 o1 inb h0 h1 x]
  rfl

include h0 h1 in
/-- A square's stored new error is the block's new error there. -/
theorem nerr_piece (x : (sqRect o0 o1 inb).shape.Idx) :
    k0_pay12 (F := Ideal) (accSq A o0 o1 inb inb0) (load E o0 o1 inb) x = nerr A E ((sqRect o0 o1 inb).emb x) := by
  refine (Tile.left_at _ _ x).trans ?_
  rw [acc_load, sqScale_eq A E o0 o1 inb h0 h1, ← sq_of A E o0 o1 inb h0 h1 x]
  rfl

/-- The scale a square of row `p` of squares computes is the block's. -/
theorem scale_piece (p : Nat) (hp : p < 8) (ho : o0 = p * 128) (q : Fin 8) (hq : o1 = q.val * 128) :
    k0_pay9 (F := Ideal) (accSq A o0 o1 inb inb0) (load E o0 o1 inb) (ix2 0 0) = scale A E ⟨p, hp⟩ q := by
  rw [Tile.scale_at, acc_load, sqScale_eq A E o0 o1 inb (by omega) (by omega)]
  exact congrArg₂ (scale A E) (Fin.ext (by show o0 / 128 = p; omega)) (Fin.ext (by show o1 / 128 = q.val; omega))

/-- The rectangle of one row of the block's scales. -/
abbrev rowRect (p : Nat) (inbr : ∀ a, (![0, 0, p, 0] : Fin 4 → Nat) a + S1x1x1x8.size a ≤ S1x1x8x8.size a) : Rect S1x1x8x8 :=
  Rect.unit (s := S1x1x8x8) ![0, 0, p, 0] S1x1x1x8.size inbr

theorem row_idx (p : Nat) (hp : p < 8) (inbr : ∀ a, (![0, 0, p, 0] : Fin 4 → Nat) a + S1x1x1x8.size a ≤ S1x1x8x8.size a) (q : Fin 8) :
    scales A E ((rowRect p inbr).emb (ix4 0 0 0 q)) = scale A E ⟨p, hp⟩ q :=
  congrArg₂ (scale A E) (Fin.ext (Rect.idx_unit_val (s := S1x1x8x8) _ _ inbr (ix4 0 0 0 q) 2))
    (Fin.ext ((Rect.idx_unit_val (s := S1x1x8x8) _ _ inbr (ix4 0 0 0 q) 3).trans (Nat.zero_add _)))

end Cert.KernelIdeal.Block

end
-- ==== Proof.KernelRow.lean ====
/- The kernel's stored rows of scales: one row of eight squares. -/
module

public import proofs.«01_k».proof.Proof.KernelBlock

@[expose] public section

set_option maxRecDepth 16384

noncomputable section

namespace Cert.KernelIdeal.Block

open Idealize.ShloMosaic Idealize.ShloMosaic.TcCoe Cert.KernelIdeal Cert.KernelIdeal.Gen

/-- An index of a stored row is its lane. -/
theorem row_lane (x : S1x1x1x8.Idx) : ∃ q : Fin 8, x = ix4 (0 : Fin 1) (0 : Fin 1) (0 : Fin 1) q := by
  refine ⟨x 3, ?_⟩
  funext a; apply Fin.ext
  match a with
  | 0 => have : (x 0).val < 1 := (x 0).isLt; show (x 0).val = 0; omega
  | 1 => have : (x 1).val < 1 := (x 1).isLt; show (x 1).val = 0; omega
  | 2 => have : (x 2).val < 1 := (x 2).isLt; show (x 2).val = 0; omega
  | 3 => rfl

/-- One stored row of scales is the block's scales there, lane by lane. -/
theorem row_piece (A E : FVec Ideal S1024x1024 .f32) (p : Nat) (hp : p < 8) (s0 s1 s2 s3 s4 s5 s6 s7 : FVec Ideal S1x1 .f32)
    (h0 : s0 (ix2 0 0) = scale A E ⟨p, hp⟩ 0) (h1 : s1 (ix2 0 0) = scale A E ⟨p, hp⟩ 1) (h2 : s2 (ix2 0 0) = scale A E ⟨p, hp⟩ 2)
    (h3 : s3 (ix2 0 0) = scale A E ⟨p, hp⟩ 3) (h4 : s4 (ix2 0 0) = scale A E ⟨p, hp⟩ 4) (h5 : s5 (ix2 0 0) = scale A E ⟨p, hp⟩ 5)
    (h6 : s6 (ix2 0 0) = scale A E ⟨p, hp⟩ 6) (h7 : s7 (ix2 0 0) = scale A E ⟨p, hp⟩ 7)
    (inbr : ∀ a, (![0, 0, p, 0] : Fin 4 → Nat) a + S1x1x1x8.size a ≤ S1x1x8x8.size a) (x : S1x1x1x8.Idx) :
    Tile.scaleRow s0 s1 s2 s3 s4 s5 s6 s7 x = scales A E ((rowRect p inbr).emb x) := by
  obtain ⟨q, rfl⟩ := row_lane x
  rw [Tile.scaleRow_at s0 s1 s2 s3 s4 s5 s6 s7 (scale A E ⟨p, hp⟩) h0 h1 h2 h3 h4 h5 h6 h7 q]
  exact (row_idx A E p hp inbr q).symm

/-- The square at `(o0, o1)` lies in the block. -/
theorem sq_inb (o0 o1 : Nat) (h0 : o0 ≤ 896) (h1 : o1 ≤ 896) : ∀ a, (![o0, o1] : Fin 2 → Nat) a + S128x128.size a ≤ S1024x1024.size a := by
  intro a
  match a with
  | 0 => show o0 + 128 ≤ 1024; omega
  | 1 => show o1 + 128 ≤ 1024; omega

/-- Row `p` of scales lies in its block. -/
theorem row_inb (p : Nat) (hp : p < 8) : ∀ a, (![0, 0, p, 0] : Fin 4 → Nat) a + S1x1x1x8.size a ≤ S1x1x8x8.size a := by
  intro a
  match a with
  | 0 => show 0 + 1 ≤ 1; omega
  | 1 => show 0 + 1 ≤ 1; omega
  | 2 => show p + 1 ≤ 8; omega
  | 3 => show 0 + 8 ≤ 8; omega

/-- The scale of the square at `(o0, o1)`, from its two loads. -/
abbrev sqOne (A E : FVec Ideal S1024x1024 .f32) (o0 o1 : Nat) (h0 : o0 ≤ 896) (h1 : o1 ≤ 896) : FVec Ideal S1x1 .f32 :=
  k0_pay9 (F := Ideal) (accSq A o0 o1 (sq_inb o0 o1 h0 h1) inb_S1024x1024_S1024x1024_0_0) (load E o0 o1 (sq_inb o0 o1 h0 h1))

/-- The row of scales the kernel stores for one row of squares, from its eight pairs of loads. -/
def storedRow (A E : FVec Ideal S1024x1024 .f32) (o0 : Nat) (h : o0 ≤ 896) : FVec Ideal S1x1x1x8 .f32 :=
  Tile.scaleRow (sqOne A E o0 0 h (by decide)) (sqOne A E o0 128 h (by decide)) (sqOne A E o0 256 h (by decide)) (sqOne A E o0 384 h (by decide))
    (sqOne A E o0 512 h (by decide)) (sqOne A E o0 640 h (by decide)) (sqOne A E o0 768 h (by decide)) (sqOne A E o0 896 h (by decide))

/-- It is the block's scales there. -/
theorem row_stored (A E : FVec Ideal S1024x1024 .f32) (o0 p : Nat) (h : o0 ≤ 896) (hp : p < 8) (ho : o0 = p * 128) (x : S1x1x1x8.Idx) :
    storedRow A E o0 h x = scales A E ((rowRect p (row_inb p hp)).emb x) :=
  row_piece A E p hp _ _ _ _ _ _ _ _ (scale_piece A E o0 0 _ _ p hp ho 0 rfl) (scale_piece A E o0 128 _ _ p hp ho 1 rfl)
    (scale_piece A E o0 256 _ _ p hp ho 2 rfl) (scale_piece A E o0 384 _ _ p hp ho 3 rfl) (scale_piece A E o0 512 _ _ p hp ho 4 rfl)
    (scale_piece A E o0 640 _ _ p hp ho 5 rfl) (scale_piece A E o0 768 _ _ p hp ho 6 rfl) (scale_piece A E o0 896 _ _ p hp ho 7 rfl) _ x

end Cert.KernelIdeal.Block

end
-- ==== Proof.KernelLast.lean ====
/- The kernel's last step as a whole: the three blocks it leaves are `Block.codes`, `Block.scales` and `Block.nerr` of the
   accumulated gradient and the error block. -/
module

public import proofs.«01_k».proof.Proof.Gen.KernelIdeal.Frame
public import proofs.«01_k».proof.Proof.KernelRow

@[expose] public section

set_option maxRecDepth 16384

noncomputable section

namespace Cert.KernelIdeal.Last

open Idealize.ShloMosaic Idealize.ShloMosaic.TcCoe Idealize.SL.Sem Cert.KernelIdeal Cert.KernelIdeal.Gen

variable (c : Dev nD) (i : grid0.Coords) (arg3 : Memref sig .tc .vmem S1536x1024 .bf16) (harg3 : arg3.IsWhole)
    (arg4 : Memref sig .tc .vmem S1536x1024 .bf16) (harg4 : arg4.IsWhole) (arg5 : Memref sig .tc .vmem S1024x1024 .f32) (harg5 : arg5.IsWhole)
    (arg6 : Memref sig .tc .vmem S1024x1024 .i8) (harg6 : arg6.IsWhole) (arg7 : Memref sig .tc .vmem S1x1x8x8 .f32) (harg7 : arg7.IsWhole)
    (arg8 : Memref sig .tc .vmem S1024x1024 .f32) (harg8 : arg8.IsWhole) (hc0 : ¬cond0_0 i) (hc1 : cond0_1 i) (hc2 : cond0_2 i)
    (x0 : Vec Ideal S1536x1024 .bf16) (x1 : Vec Ideal S1536x1024 .bf16) (x2 : Vec Ideal S1024x1024 .f32) (xs0 : Vec Ideal S1024x1024 .f32)

set_option maxHeartbeats 4000000 in
/-- The codes' block. -/
theorem codes : out0_C_3 (F := Ideal) c i arg3 harg3 arg4 harg4 arg5 harg5 arg6 harg6 arg7 harg7 arg8 harg8 scM0_0 (Memref.isWhole_whole _) hc0 hc1 hc2 x0 x1 x2 xs0
    = Block.codes (k0_pay3 (F := Ideal) x0 x1 xs0) x2 := by
  funext y
  frame_out
  simp only [read_unread_whole]
  refine View.canon_apply_of_pieces (S := S1024x1024) (Val := Elt Ideal) (e := .i8) (Block.codes (k0_pay3 (F := Ideal) x0 x1 xs0) x2) _ ?_ y ?_
  · iterate 64 refine List.forall_mem_cons.2 ⟨fun x => Block.codes_piece _ _ _ _ _ (by decide) (by decide) _ x, ?_⟩
    exact List.forall_mem_nil _
  · exact View.cover_of_tiledL (s := S1024x1024) _ S128x128.size (by sl_kernel_rfl) y

set_option maxHeartbeats 4000000 in
/-- The new error's block. -/
theorem nerr : out0_C_5 (F := Ideal) c i arg3 harg3 arg4 harg4 arg5 harg5 arg6 harg6 arg7 harg7 arg8 harg8 scM0_0 (Memref.isWhole_whole _) hc0 hc1 hc2 x0 x1 x2 xs0
    = Block.nerr (k0_pay3 (F := Ideal) x0 x1 xs0) x2 := by
  funext y
  frame_out
  simp only [read_unread_whole]
  refine View.canon_apply_of_pieces (S := S1024x1024) (Val := Elt Ideal) (e := .f32) (Block.nerr (k0_pay3 (F := Ideal) x0 x1 xs0) x2) _ ?_ y ?_
  · iterate 64 refine List.forall_mem_cons.2 ⟨fun x => Block.nerr_piece _ _ _ _ _ (by decide) (by decide) _ x, ?_⟩
    exact List.forall_mem_nil _
  · exact View.cover_of_tiledL (s := S1024x1024) _ S128x128.size (by sl_kernel_rfl) y

set_option maxHeartbeats 4000000 in
/-- The scales' block. -/
theorem scales : out0_C_4 (F := Ideal) c i arg3 harg3 arg4 harg4 arg5 harg5 arg6 harg6 arg7 harg7 arg8 harg8 scM0_0 (Memref.isWhole_whole _) hc0 hc1 hc2 x0 x1 x2 xs0
    = Block.scales (k0_pay3 (F := Ideal) x0 x1 xs0) x2 := by
  funext y
  frame_out
  simp only [read_unread_whole]
  refine View.canon_apply_of_pieces (S := S1x1x8x8) (Val := Elt Ideal) (e := .f32) (Block.scales (k0_pay3 (F := Ideal) x0 x1 xs0) x2) _ ?_ y ?_
  · refine List.forall_mem_cons.2 ⟨fun x => Block.row_stored _ _ 896 7 (by decide) (by decide) rfl x, ?_⟩
    refine List.forall_mem_cons.2 ⟨fun x => Block.row_stored _ _ 768 6 (by decide) (by decide) rfl x, ?_⟩
    refine List.forall_mem_cons.2 ⟨fun x => Block.row_stored _ _ 640 5 (by decide) (by decide) rfl x, ?_⟩
    refine List.forall_mem_cons.2 ⟨fun x => Block.row_stored _ _ 512 4 (by decide) (by decide) rfl x, ?_⟩
    refine List.forall_mem_cons.2 ⟨fun x => Block.row_stored _ _ 384 3 (by decide) (by decide) rfl x, ?_⟩
    refine List.forall_mem_cons.2 ⟨fun x => Block.row_stored _ _ 256 2 (by decide) (by decide) rfl x, ?_⟩
    refine List.forall_mem_cons.2 ⟨fun x => Block.row_stored _ _ 128 1 (by decide) (by decide) rfl x, ?_⟩
    refine List.forall_mem_cons.2 ⟨fun x => Block.row_stored _ _ 0 0 (by decide) (by decide) rfl x, ?_⟩
    exact List.forall_mem_nil _
  · exact View.cover_of_tiledL (s := S1x1x8x8) _ S1x1x1x8.size (by sl_kernel_rfl) y

end Cert.KernelIdeal.Last

end
-- ==== Proof.KernelArrays.lean ====
/- What the kernel's three arrays hold after its region, as the mathematics of the arguments. -/
module

public import proofs.«01_k».proof.Proof.KernelAcc
public import proofs.«01_k».proof.Proof.KernelLast

@[expose] public section

set_option maxRecDepth 16384

noncomputable section

namespace Cert.KernelIdeal.Arrays

open Idealize.ShloMosaic Idealize.ShloMosaic.TcCoe Idealize.SL.Sem Cert.KernelIdeal Cert.KernelIdeal.Gen
open Cert.KernelIdeal.Acc (X Y E held rowAt colAt lt686)

/-! ## A block inside the whole array -/

section Pure

variable (x y : Spec.Sx.Idx → EReal) (e : Spec.Sg.Idx → EReal) (A B : FVec Ideal S1024x1024 .f32) (r s : Fin 7)

/-- Position `a` of block `r` along an axis. -/
abbrev pos (r : Fin 7) (a : Fin 1024) : Fin 7168 := ⟨r.val * 1024 + a.val, by omega⟩
/-- Square `p` of block `r` along an axis. -/
abbrev sq (r : Fin 7) (p : Fin 8) : Fin 56 := ⟨r.val * 8 + p.val, by omega⟩

theorem pos_at8 (p : Fin 8) (a : Fin 128) : pos r (Block.at8 p a) = Spec.at128 (sq r p) a := by
  apply Fin.ext; show r.val * 1024 + (p.val * 128 + a.val) = (r.val * 8 + p.val) * 128 + a.val; omega

theorem sqOf_pos (a : Fin 1024) : Spec.sqOf (pos r a) = sq r (Block.sq8 a) := by
  apply Fin.ext; show (r.val * 1024 + a.val) / 128 = r.val * 8 + a.val / 128; omega

variable (h : ∀ a b : Fin 1024, A (ix2 a b) + B (ix2 a b) = Spec.val x y e (pos r a) (pos s b))

include h in
/-- The scale of a block's square is the scale of that square of the array. -/
theorem scale_in (p q : Fin 8) : Block.scale A B p q = Spec.scaleAt x y e (sq r p) (sq s q) := by
  unfold Block.scale Spec.scaleAt
  simp only [h, pos_at8]

include h in
/-- A block's codes are the array's there. -/
theorem codes_in (i : S1024x1024.Idx) : Block.codes A B i = Spec.codeAt x y e (pos r (i 0)) (pos s (i 1)) := by
  obtain ⟨a, b, rfl⟩ : ∃ (a b : Fin 1024), i = ix2 a b := ⟨i 0, i 1, (ix2_eta i).symm⟩
  show _ = Spec.codeAt x y e (pos r a) (pos s b)
  unfold Spec.codeAt
  rw [sqOf_pos, sqOf_pos, ← scale_in x y e A B r s h, ← h]
  rfl

include h in
/-- A block's new error is the array's there. -/
theorem nerr_in (i : S1024x1024.Idx) : Block.nerr A B i = Spec.leftAt x y e (pos r (i 0)) (pos s (i 1)) := by
  obtain ⟨a, b, rfl⟩ : ∃ (a b : Fin 1024), i = ix2 a b := ⟨i 0, i 1, (ix2_eta i).symm⟩
  show _ = Spec.leftAt x y e (pos r a) (pos s b)
  unfold Spec.leftAt
  rw [sqOf_pos, sqOf_pos, ← scale_in x y e A B r s h, ← h]
  rfl

end Pure

/-! ## The arrays -/

variable (m : (l : Loc nD τ sig) → Buf (Elt Ideal) l) (c : Dev nD)

/-- Where the error's and the results' blocks lie. -/
theorem idx : ∀ t : Fin cfg0.N, win0_2.index t = ![t.val / 98, t.val / 14 % 7] ∧ win0_3.index t = ![t.val / 98, t.val / 14 % 7]
    ∧ win0_4.index t = ![t.val / 98, t.val / 14 % 7, 0, 0] ∧ win0_5.index t = ![t.val / 98, t.val / 14 % 7] :=
  (by decide +kernel : ∀ t : Fin grid0.N, _)

/-- The block row and block column of a point. -/
abbrev br (t : Fin cfg0.N) : Fin 7 := ⟨t.val / 98, by have := lt686 t; omega⟩
abbrev bc (t : Fin cfg0.N) : Fin 7 := ⟨t.val / 14 % 7, by omega⟩

/-- The error's block. -/
abbrev eblk (t : Fin cfg0.N) : FVec Ideal S1024x1024 .f32 := iblk m c 2 t

theorem e_at (t : Fin cfg0.N) (a b : Fin 1024) : eblk m c t (ix2 a b) = E m c (ix2 (pos (br t) a) (pos (bc t) b)) := by
  blk_ext [iblk, V, idx t]

/-- The accumulated block with the error's added is the gradient with the error added. -/
theorem val_at (t : Fin cfg0.N) (hf : t.val % 14 = 13) (a b : Fin 1024) :
    held m c t.val t.isLt (ix2 a b) + eblk m c t (ix2 a b) = Spec.val (X m c) (Y m c) (E m c) (pos (br t) a) (pos (bc t) b) := by
  rw [Acc.held_last m c t hf a b, e_at]
  rfl

/-- The three blocks a run's last point leaves, from the accumulated block. -/
theorem codes_left (t : Fin cfg0.N) (hf : t.val % 14 = 13) :
    (outsAt0 m c t.val t.isLt).1 = Block.codes (held m c t.val t.isLt) (eblk m c t) := by
  rw [Acc.held_next m c t (by omega), outsAt0_C m c t (by omega) (by omega) hf]
  dsimp only
  rw [Last.codes]

theorem scales_left (t : Fin cfg0.N) (hf : t.val % 14 = 13) :
    (outsAt0 m c t.val t.isLt).2.1 = Block.scales (held m c t.val t.isLt) (eblk m c t) := by
  rw [Acc.held_next m c t (by omega), outsAt0_C m c t (by omega) (by omega) hf]
  dsimp only
  rw [Last.scales]

theorem nerr_left (t : Fin cfg0.N) (hf : t.val % 14 = 13) :
    (outsAt0 m c t.val t.isLt).2.2.1 = Block.nerr (held m c t.val t.isLt) (eblk m c t) := by
  rw [Acc.held_next m c t (by omega), outsAt0_C m c t (by omega) (by omega) hf]
  dsimp only
  rw [Last.nerr]

/-- Where an element of a result's block lies in the array. -/
theorem emb3 (t : Fin cfg0.N) (y : ((cfg0.win 3).xblock (cfg0.grid.coords t)).Idx) :
    (((win0_3.blk t).view.emb y) 0).val = t.val / 98 * 1024 + (y 0).val ∧ (((win0_3.blk t).view.emb y) 1).val = t.val / 14 % 7 * 1024 + (y 1).val := by
  constructor <;> blk_simp [idx t] <;> omega

theorem emb4 (t : Fin cfg0.N) (y : ((cfg0.win 4).xblock (cfg0.grid.coords t)).Idx) :
    (((win0_4.blk t).view.emb y) 0).val = t.val / 98 ∧ (((win0_4.blk t).view.emb y) 1).val = t.val / 14 % 7
      ∧ (((win0_4.blk t).view.emb y) 2).val = (y 2).val ∧ (((win0_4.blk t).view.emb y) 3).val = (y 3).val := by
  have h0 : (y 0).val < 1 := (y 0).isLt
  have h1 : (y 1).val < 1 := (y 1).isLt
  refine ⟨?_, ?_, ?_, ?_⟩ <;> blk_simp [idx t] <;> omega

theorem emb5 (t : Fin cfg0.N) (y : ((cfg0.win 5).xblock (cfg0.grid.coords t)).Idx) :
    (((win0_5.blk t).view.emb y) 0).val = t.val / 98 * 1024 + (y 0).val ∧ (((win0_5.blk t).view.emb y) 1).val = t.val / 14 % 7 * 1024 + (y 1).val := by
  constructor <;> blk_simp [idx t] <;> omega

/-- The codes' array. -/
theorem codes : (dats m 0 c).arrAt 3 cfg0.N = fun i => Spec.codeAt (X m c) (Y m c) (E m c) (i 0) (i 1) := by
  refine (dats m 0 c).arrAt_eq_of_covers 3 _ (by decide +kernel) fun t hf y => ?_
  have hl := (flush0_3 t).mp hf
  blk_simp
  rw [after0_3, codes_left m c t hl]
  exact (codes_in _ _ _ _ _ (br t) (bc t) (val_at m c t hl) y).trans
    (congrArg₂ (Spec.codeAt (X m c) (Y m c) (E m c)) (Fin.ext (emb3 t y).1.symm) (Fin.ext (emb3 t y).2.symm))

/-- The scales' array, block by block. -/
theorem scales : (dats m 0 c).arrAt 4 cfg0.N
    = fun i => Spec.scaleAt (X m c) (Y m c) (E m c) (sq (i 0) (i 2)) (sq (i 1) (i 3)) := by
  refine (dats m 0 c).arrAt_eq_of_covers 4 _ (by decide +kernel) fun t hf y => ?_
  have hl := (flush0_4 t).mp hf
  blk_simp
  rw [after0_4, scales_left m c t hl]
  obtain ⟨e0, e1, e2, e3⟩ := emb4 t y
  exact (scale_in _ _ _ _ _ (br t) (bc t) (val_at m c t hl) (y 2) (y 3)).trans
    (congrArg₂ (Spec.scaleAt (X m c) (Y m c) (E m c)) (congrArg₂ sq (Fin.ext e0.symm) (Fin.ext e2.symm))
      (congrArg₂ sq (Fin.ext e1.symm) (Fin.ext e3.symm)))

/-- The new error's array. -/
theorem nerr : (dats m 0 c).arrAt 5 cfg0.N = fun i => Spec.leftAt (X m c) (Y m c) (E m c) (i 0) (i 1) := by
  refine (dats m 0 c).arrAt_eq_of_covers 5 _ (by decide +kernel) fun t hf y => ?_
  have hl := (flush0_5 t).mp hf
  blk_simp
  rw [after0_5, nerr_left m c t hl]
  exact (nerr_in _ _ _ _ _ (br t) (bc t) (val_at m c t hl) y).trans
    (congrArg₂ (Spec.leftAt (X m c) (Y m c) (E m c)) (Fin.ext (emb5 t y).1.symm) (Fin.ext (emb5 t y).2.symm))

end Cert.KernelIdeal.Arrays

end
-- ==== Proof.KernelRun.lean ====
/- The kernel's run: what its three results hold at the end. -/
module

public import proofs.«01_k».proof.Proof.KernelArrays
public import Idealize.ShloMosaic.Lib.Claim

@[expose] public section

set_option maxRecDepth 16384

noncomputable section

namespace Cert.KernelIdeal.Run

open Idealize.ShloMosaic Idealize.ShloMosaic.TcCoe Idealize.SL.Sem Cert.KernelIdeal Cert.KernelIdeal.Gen
open Cert.KernelIdeal.Acc (X Y E)

/-- The scales laid out as one 56 x 56 array: square `(p, q)` is square `(p % 8, q % 8)` of block `(p / 8, q / 8)`. -/
theorem laid_out (f : FVec Ideal S7x7x8x8 .f32) (p q : Fin 56) :
    shapeCast S56x56 (transpose S7x8x7x8 [0, 2, 1, 3] f transposes_S7x7x8x8_S7x8x7x8_0_2_1_3) shapeCasts_S7x8x7x8_S56x56 (ix2 p q)
      = f (ix4 (⟨p.val / 8, by omega⟩ : Fin 7) (⟨q.val / 8, by omega⟩ : Fin 7) (⟨p.val % 8, by omega⟩ : Fin 8) (⟨q.val % 8, by omega⟩ : Fin 8)) := by
  pointwise

variable (m : (l : Loc nD τ sig) → Buf (Elt Ideal) l) (c : Dev nD)

/-- The scales' result, after the two host operations that lay the blocks' scales out. -/
theorem scales : Pipeline.afterTail₀ cfgs (dats m) 0 (V0 m) [hostOps1] c main_v2
    = fun i => Spec.scaleAt (X m c) (Y m c) (E m c) (i 0) (i 1) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v0_1)
      = (dats m 0 c).arrAt 4 (cfgs 0).N := Pipeline.withArrays_arr (cfgs 0).spec (by decide) c _ _ 4
  rw [e]
  refine (congrArg (fun f => shapeCast S56x56 (transpose S7x8x7x8 [0, 2, 1, 3] f transposes_S7x7x8x8_S7x8x7x8_0_2_1_3) shapeCasts_S7x8x7x8_S56x56)
    (Arrays.scales m c)).trans ?_
  funext i
  obtain ⟨p, q, rfl⟩ : ∃ (p q : Fin 56), i = ix2 p q := ⟨i 0, i 1, (ix2_eta i).symm⟩
  rw [laid_out]
  exact congrArg₂ (Spec.scaleAt (X m c) (Y m c) (E m c))
    (Fin.ext (by show p.val / 8 * 8 + p.val % 8 = p.val; omega)) (Fin.ext (by show q.val / 8 * 8 + q.val % 8 = q.val; omega))

/-- After the run the three results are the codes, the scales and the new error, and the arguments are as launched. -/
theorem run (g : Dev nD → PrngReg) : θ_run defs (onTc (τ := τ) (main (F := Ideal))) ⟨m, fun _ => 0, g⟩ (fun r => ∀ c : Dev nD,
      r.2.mem ((c : Thread nD τ).loc main_v0_0) = (fun i => Spec.codeAt (X m c) (Y m c) (E m c) (i 0) (i 1))
      ∧ r.2.mem ((c : Thread nD τ).loc main_v2) = (fun i => Spec.scaleAt (X m c) (Y m c) (E m c) (i 0) (i 1))
      ∧ r.2.mem ((c : Thread nD τ).loc main_v0_2) = (fun i => Spec.leftAt (X m c) (Y m c) (E m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  θ_run_mono (θ_run_and (run_main m g) (unchanged m g)) fun _ h c =>
    ⟨((h.1 c).1 3).trans (Arrays.codes m c),
      ((h.1 c).2 main_v2 (Pipeline.mem_restRefs_of main_v2 (by decide) (by decide))).trans (scales m c),
      ((h.1 c).1 5).trans (Arrays.nerr m c), h.2 c⟩

end Cert.KernelIdeal.Run

end
-- ==== Proof.RefTile.lean ====
/- What the reference's body computes at an index, from the gradient and the error it loads whole. -/
module

public import proofs.«01_k».proof.Proof.Gen.ReferenceIdeal.Skeleton
public import proofs.«01_k».proof.Proof.Spec

@[expose] public section

set_option maxRecDepth 16384

noncomputable section

namespace Cert.ReferenceIdeal.Tile

open Idealize.ShloMosaic Idealize.ShloMosaic.TcCoe Cert.ReferenceIdeal Cert.ReferenceIdeal.Gen

/-- The reference's gradient plus error, cut into squares, at position `(a, b)` of square `(p, q)`. -/
theorem cut_at (g e : FVec Ideal S7168x7168 .f32) (p q : Fin 56) (a b : Fin 128) :
    k0_pay1 (F := Ideal) g e (ix4 p a q b)
      = g (ix2 (Spec.at128 p a) (Spec.at128 q b)) + e (ix2 (Spec.at128 p a) (Spec.at128 q b)) := by
  pointwise [k0_pay1]

/-- The index of a rank-4 array drops to `(p, q)` when its two reduced coordinates are free. -/
theorem drop_iff (p q : Fin 56) (i : S56x128x56x128.Idx) :
    reduces_S56x128x56x128_S56x56.drop i = ix2 p q ↔ ∃ k : Fin 128 × Fin 128, ix4 p k.1 q k.2 = i := by
  constructor
  · intro h
    refine ⟨(i 1, i 3), ?_⟩
    have h0 := congrArg Fin.val (congrFun h 0)
    have h1 := congrArg Fin.val (congrFun h 1)
    funext x; apply Fin.ext
    match x with
    | ⟨0, _⟩ => exact h0.symm
    | ⟨1, _⟩ => rfl
    | ⟨2, _⟩ => exact h1.symm
    | ⟨3, _⟩ => rfl
  · rintro ⟨k, rfl⟩
    funext x; apply Fin.ext
    match x with
    | ⟨0, _⟩ => rfl
    | ⟨1, _⟩ => rfl

/-- The largest entry of every square of an array cut into squares. -/
theorem max_at (v : FVec Ideal S56x128x56x128 .f32) (p q : Fin 56) :
    multiReduction .maximumf [1, 3] S56x56 v 0xFF800000#32 reduces_S56x128x56x128_S56x56 (.inl rfl) rfl (ix2 p q)
      = (Finset.univ : Finset (Fin 128 × Fin 128)).fold max ⊥ fun k => v (ix4 p k.1 q k.2) := by
  refine (multiReduction_maximumf_eq_fold v _ _ _ _ _).trans ?_
  rw [Finset.fold_filter_eq_fold_of_fiber FloatOps.maximumf _ (fun k : Fin 128 × Fin 128 => ix4 p k.1 q k.2)
    (fun _ _ e => Prod.ext (congrFun e 1) (congrFun e 3)) (drop_iff p q)]
  have hb : FloatOps.ofBits (F := Ideal) .f32 0xFF800000#32 = (⊥ : EReal) := by
    simp [Ideal.ofBits, Ideal.ieee]
  rw [hb]; rfl

/-- The largest magnitude of every square. -/
theorem amax_at (v : FVec Ideal S56x128x56x128 .f32) (p q : Fin 56) :
    multiReduction .maximumf [1, 3] S56x56 (absf v) 0xFF800000#32 reduces_S56x128x56x128_S56x56 (.inl rfl) rfl (ix2 p q)
      = Spec.amax fun a b => v (ix4 p a q b) :=
  max_at (absf v) p q

/-- The scales from the squares' largest magnitudes. -/
def scaleOf (w : FVec Ideal S56x56 .f32) : FVec Ideal S56x56 .f32 :=
  select (cmpf .oeq w (broadcast S56x56 (Scalar.ofBits .f32 0x00000000#32))) (broadcast S56x56 (Scalar.ofBits .f32 0x3F800000#32))
    (divf w (broadcast S56x56 (Scalar.ofBits .f32 0x42FE0000#32)))

theorem scaleOf_at (w : FVec Ideal S56x56 .f32) (i : S56x56.Idx) : scaleOf w i = Spec.scale (w i) := by
  pointwise [scaleOf, Spec.scale]

theorem pay2_eq (g e : FVec Ideal S7168x7168 .f32) :
    k0_pay2 (F := Ideal) g e = scaleOf (multiReduction .maximumf [1, 3] S56x56 (absf (k0_pay1 (F := Ideal) g e)) 0xFF800000#32
      reduces_S56x128x56x128_S56x56 (.inl rfl) rfl) := rfl

/-- The reference's scale of square `(p, q)`. -/
theorem scale_at (g e : FVec Ideal S7168x7168 .f32) (p q : Fin 56) :
    k0_pay2 (F := Ideal) g e (ix2 p q) = Spec.scale (Spec.amax fun a b => k0_pay1 (F := Ideal) g e (ix4 p a q b)) := by
  rw [pay2_eq, scaleOf_at, amax_at]

/-- The clipped rounded quotients of values `v` cut into squares, by the squares' scales `s`. -/
def quantOf (v : FVec Ideal S56x128x56x128 .f32) (s : FVec Ideal S56x56 .f32) : FVec Ideal S56x128x56x128 .f32 :=
  minimumf (broadcast S56x128x56x128 (Scalar.ofBits .f32 0x42FE0000#32)) (maximumf (broadcast S56x128x56x128 (Scalar.ofBits .f32 0xC2FE0000#32))
    (roundeven (divf v (broadcastTo S56x128x56x128 (shapeCast S56x1x56x1 s shapeCasts_S56x56_S56x1x56x1) broadcasts_S56x1x56x1_S56x128x56x128))))

theorem spread_at (s : FVec Ideal S56x56 .f32) (p q : Fin 56) (a b : Fin 128) :
    broadcastTo S56x128x56x128 (shapeCast S56x1x56x1 s shapeCasts_S56x56_S56x1x56x1) broadcasts_S56x1x56x1_S56x128x56x128 (ix4 p a q b)
      = s (ix2 p q) := by
  pointwise

theorem quantOf_at (v : FVec Ideal S56x128x56x128 .f32) (s : FVec Ideal S56x56 .f32) (p q : Fin 56) (a b : Fin 128) :
    quantOf v s (ix4 p a q b) = Spec.quant (v (ix4 p a q b)) (s (ix2 p q)) := by
  unfold quantOf
  rw [minimumf_apply, maximumf_apply, roundeven_apply, divf_apply, spread_at]
  rfl

theorem pay3_eq (g e : FVec Ideal S7168x7168 .f32) :
    k0_pay3 (F := Ideal) g e = fptosi 8 (quantOf (k0_pay1 (F := Ideal) g e) (k0_pay2 (F := Ideal) g e)) := rfl

/-- The reference's code at position `(a, b)` of square `(p, q)`. -/
theorem code_at (g e : FVec Ideal S7168x7168 .f32) (p q : Fin 56) (a b : Fin 128) :
    k0_pay3 (F := Ideal) g e (ix4 p a q b) = Spec.code (k0_pay1 (F := Ideal) g e (ix4 p a q b)) (k0_pay2 (F := Ideal) g e (ix2 p q)) := by
  rw [pay3_eq]
  generalize k0_pay1 (F := Ideal) g e = v
  generalize k0_pay2 (F := Ideal) g e = s
  show Ideal.fptosi 8 (quantOf v s (ix4 p a q b)) = _
  rw [quantOf_at]; rfl

/-- What is left of values `v` after codes `n` by scales `s`. -/
def leftOf (v : FVec Ideal S56x128x56x128 .f32) (n : IVec S56x128x56x128 8) (s : FVec Ideal S56x56 .f32) : FVec Ideal S7168x7168 .f32 :=
  shapeCast S7168x7168 (subf v (mulf (sitofp .f32 n)
    (broadcastTo S56x128x56x128 (shapeCast S56x1x56x1 s shapeCasts_S56x56_S56x1x56x1) broadcasts_S56x1x56x1_S56x128x56x128)))
    shapeCasts_S56x128x56x128_S7168x7168

/-- The position inside its square. -/
abbrev inSq (i : Fin 7168) : Fin 128 := ⟨i.val % 128, by omega⟩

theorem uncut_at {α : Type} (v : S56x128x56x128.Idx → α) (i j : Fin 7168) :
    shapeCast S7168x7168 v shapeCasts_S56x128x56x128_S7168x7168 (ix2 i j) = v (ix4 (Spec.sqOf i) (inSq i) (Spec.sqOf j) (inSq j)) := by
  pointwise

theorem leftOf_at (v : FVec Ideal S56x128x56x128 .f32) (n : IVec S56x128x56x128 8) (s : FVec Ideal S56x56 .f32) (i j : Fin 7168) :
    leftOf v n s (ix2 i j) = v (ix4 (Spec.sqOf i) (inSq i) (Spec.sqOf j) (inSq j))
      - (((n (ix4 (Spec.sqOf i) (inSq i) (Spec.sqOf j) (inSq j))).toInt : ℝ) : EReal) * s (ix2 (Spec.sqOf i) (Spec.sqOf j)) := by
  unfold leftOf
  rw [uncut_at, subf_apply, mulf_apply, spread_at]
  rfl

theorem pay4_eq (g e : FVec Ideal S7168x7168 .f32) :
    k0_pay4 (F := Ideal) g e = shapeCast S7168x7168 (k0_pay3 (F := Ideal) g e) shapeCasts_S56x128x56x128_S7168x7168 := rfl

theorem pay5_eq (g e : FVec Ideal S7168x7168 .f32) :
    k0_pay5 (F := Ideal) g e = leftOf (k0_pay1 (F := Ideal) g e) (k0_pay3 (F := Ideal) g e) (k0_pay2 (F := Ideal) g e) := rfl

theorem at128_sqOf (i : Fin 7168) : Spec.at128 (Spec.sqOf i) (inSq i) = i :=
  Fin.ext (by show i.val / 128 * 128 + i.val % 128 = i.val; omega)

/-- The scale of square `(p, q)` from a gradient `g` and an error `e`. -/
def sc (g e : FVec Ideal S7168x7168 .f32) (p q : Fin 56) : EReal :=
  Spec.scale (Spec.amax fun a b => g (ix2 (Spec.at128 p a) (Spec.at128 q b)) + e (ix2 (Spec.at128 p a) (Spec.at128 q b)))

/-- The scale the reference stores for square `(p, q)`. -/
theorem scales_at (g e : FVec Ideal S7168x7168 .f32) (p q : Fin 56) : k0_pay2 (F := Ideal) g e (ix2 p q) = sc g e p q := by
  rw [scale_at]
  simp only [cut_at]
  rfl

/-- The code the reference stores at `(i, j)`. -/
theorem codes_at (g e : FVec Ideal S7168x7168 .f32) (i j : Fin 7168) :
    k0_pay4 (F := Ideal) g e (ix2 i j) = Spec.code (g (ix2 i j) + e (ix2 i j)) (sc g e (Spec.sqOf i) (Spec.sqOf j)) := by
  rw [pay4_eq, uncut_at, code_at, scales_at, cut_at, at128_sqOf, at128_sqOf]

/-- The new error the reference stores at `(i, j)`. -/
theorem nerr_at (g e : FVec Ideal S7168x7168 .f32) (i j : Fin 7168) :
    k0_pay5 (F := Ideal) g e (ix2 i j) = Spec.left (g (ix2 i j) + e (ix2 i j)) (sc g e (Spec.sqOf i) (Spec.sqOf j)) := by
  rw [pay5_eq, leftOf_at, code_at, scales_at, cut_at, at128_sqOf, at128_sqOf, Spec.code_toInt, Spec.left]

end Cert.ReferenceIdeal.Tile

end
-- ==== Proof.RefArrays.lean ====
/- What the reference's three results hold after its run, as the mathematics of the arguments. -/
module

public import proofs.«01_k».proof.Proof.Gen.ReferenceIdeal.Value
public import proofs.«01_k».proof.Proof.RefTile
public import Idealize.ShloMosaic.Lib.Claim

@[expose] public section

set_option maxRecDepth 16384

noncomputable section

namespace Cert.ReferenceIdeal.Arrays

open Idealize.ShloMosaic Idealize.ShloMosaic.TcCoe Idealize.SL.Sem Cert.ReferenceIdeal Cert.ReferenceIdeal.Gen

variable (m : (l : Loc nD τ sig) → Buf (Elt Ideal) l) (c : Dev nD)

/-- The operands and the carried error, as launched. -/
abbrev X : Spec.Sx.Idx → EReal := m ((c : Thread nD τ).loc main_arg0)
abbrev Y : Spec.Sx.Idx → EReal := m ((c : Thread nD τ).loc main_arg1)
abbrev E : Spec.Sg.Idx → EReal := m ((c : Thread nD τ).loc main_arg2)

/-- The gradient the host computes before the region. -/
def grad : FVec Ideal S7168x7168 .f32 := V m c main_v0

/-- It is the sum of products over the tokens. -/
theorem grad_at (i j : Fin 7168) : grad m c (ix2 i j) = ∑ k : Fin 21504, X m c (ix2 k i) * Y m c (ix2 k j) := by
  unfold grad
  entry_read
  pointwise

theorem val_at (i j : Fin 7168) :
    grad m c (ix2 i j) + E m c (ix2 i j) = Spec.val (X m c) (Y m c) (E m c) i j := by
  rw [grad_at, Spec.val]

theorem sc_eq (p q : Fin 56) : Tile.sc (grad m c) (E m c) p q = Spec.scaleAt (X m c) (Y m c) (E m c) p q := by
  unfold Tile.sc Spec.scaleAt
  simp only [val_at]

/-- Every window's one block is at the origin. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem iblk0 (t : Fin cfg0.N) : iblk m c 0 t = grad m c := by
  unfold grad
  have h : ∀ g : FVec Ideal S7168x7168 .f32, ((cfg0.win 0).blk t).view.read (Elt Ideal) g = g := fun g => by blk_ext! [idx t]
  exact h (V m c main_v0)

theorem iblk1 (t : Fin cfg0.N) : iblk m c 1 t = E m c := by
  blk_ext! [iblk, V, idx t]

/-- The codes, as computed from the gradient. -/
theorem codes_fn : k0_pay4 (F := Ideal) (grad m c) (E m c) = fun i => Spec.codeAt (X m c) (Y m c) (E m c) (i 0) (i 1) := by
  funext j
  obtain ⟨a, b, rfl⟩ : ∃ (a b : Fin 7168), j = ix2 a b := ⟨j 0, j 1, (ix2_eta j).symm⟩
  rw [Tile.codes_at, val_at, sc_eq]; rfl

/-- The scales, as computed from the gradient. -/
theorem scales_fn : k0_pay2 (F := Ideal) (grad m c) (E m c) = fun i => Spec.scaleAt (X m c) (Y m c) (E m c) (i 0) (i 1) := by
  funext j
  obtain ⟨a, b, rfl⟩ : ∃ (a b : Fin 56), j = ix2 a b := ⟨j 0, j 1, (ix2_eta j).symm⟩
  rw [Tile.scales_at, sc_eq]; rfl

/-- The new error, as computed from the gradient. -/
theorem nerr_fn : k0_pay5 (F := Ideal) (grad m c) (E m c) = fun i => Spec.leftAt (X m c) (Y m c) (E m c) (i 0) (i 1) := by
  funext j
  obtain ⟨a, b, rfl⟩ : ∃ (a b : Fin 7168), j = ix2 a b := ⟨j 0, j 1, (ix2_eta j).symm⟩
  rw [Tile.nerr_at, val_at, sc_eq]; rfl

/-- The codes the reference ends with. -/
theorem codes : (dats m 0 c).arrAt 2 cfg0.N = fun i => Spec.codeAt (X m c) (Y m c) (E m c) (i 0) (i 1) := by
  refine (dats m 0 c).arrAt_eq_of_after_last 2 t0_0 (by decide +kernel) _ fun j => ?_
  blk_simp
  rw [after0_2]
  frame_out
  rw [iblk0, iblk1]
  exact congrFun (codes_fn m c) j

/-- The scales the reference ends with. -/
theorem scales : (dats m 0 c).arrAt 3 cfg0.N = fun i => Spec.scaleAt (X m c) (Y m c) (E m c) (i 0) (i 1) := by
  refine (dats m 0 c).arrAt_eq_of_after_last 3 t0_0 (by decide +kernel) _ fun j => ?_
  blk_simp
  rw [after0_3]
  frame_out
  rw [iblk0, iblk1]
  exact congrFun (scales_fn m c) j

/-- The new error the reference ends with. -/
theorem nerr : (dats m 0 c).arrAt 4 cfg0.N = fun i => Spec.leftAt (X m c) (Y m c) (E m c) (i 0) (i 1) := by
  refine (dats m 0 c).arrAt_eq_of_after_last 4 t0_0 (by decide +kernel) _ fun j => ?_
  blk_simp
  rw [after0_4]
  frame_out
  rw [iblk0, iblk1]
  exact congrFun (nerr_fn m c) j

end Cert.ReferenceIdeal.Arrays

end
-- ==== Proof.lean ====
/- The certificate's claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- From the same arguments the idealized kernel and the idealized reference end with the same three results:
    every code, every scale and every element of the new error. -/
theorem algebraic : Cert.algebraic_KernelIdeal_ReferenceIdeal := by
  intro m g m' g' _ hagree
  refine ⟨fun c i => Spec.codeAt (KernelIdeal.Acc.X m c) (KernelIdeal.Acc.Y m c) (KernelIdeal.Acc.E m c) (i 0) (i 1),
    fun c i => Spec.scaleAt (KernelIdeal.Acc.X m c) (KernelIdeal.Acc.Y m c) (KernelIdeal.Acc.E m c) (i 0) (i 1),
    fun c i => Spec.leftAt (KernelIdeal.Acc.X m c) (KernelIdeal.Acc.Y m c) (KernelIdeal.Acc.E m c) (i 0) (i 1),
    KernelIdeal.Run.run m g, θ_run_mono (ReferenceIdeal.Value.run_blocks m' g') fun _ h c => ?_⟩
  have eX : ReferenceIdeal.Arrays.X m' c = KernelIdeal.Acc.X m c := (hagree c).1
  have eY : ReferenceIdeal.Arrays.Y m' c = KernelIdeal.Acc.Y m c := (hagree c).2.1
  have eE : ReferenceIdeal.Arrays.E m' c = KernelIdeal.Acc.E m c := (hagree c).2.2
  obtain ⟨h0, h1, h2, h3⟩ := h c
  rw [ReferenceIdeal.Arrays.codes m' c, eX, eY, eE] at h0
  rw [ReferenceIdeal.Arrays.scales m' c, eX, eY, eE] at h1
  rw [ReferenceIdeal.Arrays.nerr m' c, eX, eY, eE] at h2
  exact ⟨h0, h1, h2, h3⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
